-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x32x3 : Shape := ⟨5, ![4, 32, 32, 32, 3]⟩
abbrev S4x32x32 : Shape := ⟨3, ![4, 32, 32]⟩
abbrev S3x32 : Shape := ⟨2, ![3, 32]⟩
abbrev S32 : Shape := ⟨1, ![32]⟩
abbrev S32x256 : Shape := ⟨2, ![32, 256]⟩
abbrev S256 : Shape := ⟨1, ![256]⟩
abbrev S256x256 : Shape := ⟨2, ![256, 256]⟩
abbrev S131072x3 : Shape := ⟨2, ![131072, 3]⟩
abbrev S8x512x1 : Shape := ⟨3, ![8, 512, 1]⟩
abbrev S1x32 : Shape := ⟨2, ![1, 32]⟩
abbrev S1x256 : Shape := ⟨2, ![1, 256]⟩
abbrev S4096x256 : Shape := ⟨2, ![4096, 256]⟩
abbrev S16384x3 : Shape := ⟨2, ![16384, 3]⟩
abbrev S1x512x1 : Shape := ⟨3, ![1, 512, 1]⟩
abbrev S512x256 : Shape := ⟨2, ![512, 256]⟩
abbrev S16384x32 : Shape := ⟨2, ![16384, 32]⟩
abbrev S16384x256 : Shape := ⟨2, ![16384, 256]⟩
abbrev S512x32x256 : Shape := ⟨3, ![512, 32, 256]⟩
abbrev S512x1 : Shape := ⟨2, ![512, 1]⟩
abbrev S512x32 : Shape := ⟨2, ![512, 32]⟩
abbrev S512x32x1 : Shape := ⟨3, ![512, 32, 1]⟩
abbrev S4x32x32x256 : Shape := ⟨4, ![4, 32, 32, 256]⟩

abbrev nBuf : Space → Nat
  | .hbm => 18
  | .vmem => 12
  | .smem => 0
  | _ => 0

abbrev bufTy : (tb : Table) → Fin (tcTables nBuf tb) → BufTy
  | .hbm, ⟨0, _⟩ => ⟨S4x32x32x32x3, .f32⟩
  | .hbm, ⟨1, _⟩ => ⟨S4x32x32, .i32⟩
  | .hbm, ⟨2, _⟩ => ⟨S3x32, .f32⟩
  | .hbm, ⟨3, _⟩ => ⟨S32, .f32⟩
  | .hbm, ⟨4, _⟩ => ⟨S32x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S131072x3, .f32⟩
  | .hbm, ⟨9, _⟩ => ⟨S8x512x1, .i32⟩
  | .hbm, ⟨10, _⟩ => ⟨S3x32, .bf16⟩
  | .hbm, ⟨11, _⟩ => ⟨S1x32, .f32⟩
  | .hbm, ⟨12, _⟩ => ⟨S32x256, .bf16⟩
  | .hbm, ⟨13, _⟩ => ⟨S1x256, .f32⟩
  | .hbm, ⟨14, _⟩ => ⟨S256x256, .bf16⟩
  | .hbm, ⟨15, _⟩ => ⟨S1x256, .f32⟩
  | .hbm, ⟨16, _⟩ => ⟨S4096x256, .f32⟩
  | .hbm, ⟨17, _⟩ => ⟨S4x32x32x256, .f32⟩
  | .local _ .vmem, ⟨0, _⟩ => ⟨S16384x3, .f32⟩
  | .local _ .vmem, ⟨1, _⟩ => ⟨S16384x3, .f32⟩
  | .local _ .vmem, ⟨2, _⟩ => ⟨S1x512x1, .i32⟩
  | .local _ .vmem, ⟨3, _⟩ => ⟨S1x512x1, .i32⟩
  | .local _ .vmem, ⟨4, _⟩ => ⟨S3x32, .bf16⟩
  | .local _ .vmem, ⟨5, _⟩ => ⟨S1x32, .f32⟩
  | .local _ .vmem, ⟨6, _⟩ => ⟨S32x256, .bf16⟩
  | .local _ .vmem, ⟨7, _⟩ => ⟨S1x256, .f32⟩
  | .local _ .vmem, ⟨8, _⟩ => ⟨S256x256, .bf16⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S4x32x32x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S4x32x32x32x3 : Shape := ⟨5, ![4, 32, 32, 32, 3]⟩
abbrev S4x32x32 : Shape := ⟨3, ![4, 32, 32]⟩
abbrev S3x32 : Shape := ⟨2, ![3, 32]⟩
abbrev S32 : Shape := ⟨1, ![32]⟩
abbrev S32x256 : Shape := ⟨2, ![32, 256]⟩
abbrev S256 : Shape := ⟨1, ![256]⟩
abbrev S256x256 : Shape := ⟨2, ![256, 256]⟩
abbrev S4096x32x3 : Shape := ⟨3, ![4096, 32, 3]⟩
abbrev S4096 : Shape := ⟨1, ![4096]⟩
abbrev S4096x32x32 : Shape := ⟨3, ![4096, 32, 32]⟩
abbrev S1x1x32 : Shape := ⟨3, ![1, 1, 32]⟩
abbrev S_ : Shape := ⟨0, ![]⟩
abbrev S4096x32x256 : Shape := ⟨3, ![4096, 32, 256]⟩
abbrev S1x1x256 : Shape := ⟨3, ![1, 1, 256]⟩
abbrev S1x32 : Shape := ⟨2, ![1, 32]⟩
abbrev S4096x1 : Shape := ⟨2, ![4096, 1]⟩
abbrev S4096x32 : Shape := ⟨2, ![4096, 32]⟩
abbrev S4096x32x1 : Shape := ⟨3, ![4096, 32, 1]⟩
abbrev S4096x256 : Shape := ⟨2, ![4096, 256]⟩
abbrev S1x1x3 : Shape := ⟨3, ![1, 1, 3]⟩
abbrev S1x256 : Shape := ⟨2, ![1, 256]⟩
abbrev S4x32x32x256 : Shape := ⟨4, ![4, 32, 32, 256]⟩

abbrev nBuf : Space → Nat
  | .hbm => 68
  | .vmem => 0
  | .smem => 0
  | _ => 0

abbrev bufTy : (tb : Table) → Fin (tcTables nBuf tb) → BufTy
  | .hbm, ⟨0, _⟩ => ⟨S4x32x32x32x3, .f32⟩
  | .hbm, ⟨1, _⟩ => ⟨S4x32x32, .i32⟩
  | .hbm, ⟨2, _⟩ => ⟨S3x32, .f32⟩
  | .hbm, ⟨3, _⟩ => ⟨S32, .f32⟩
  | .hbm, ⟨4, _⟩ => ⟨S32x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S4096x32x3, .f32⟩
  | .hbm, ⟨9, _⟩ => ⟨S4096, .i32⟩
  | .hbm, ⟨10, _⟩ => ⟨S4096x32x32, .f32⟩
  | .hbm, ⟨11, _⟩ => ⟨S1x1x32, .f32⟩
  | .hbm, ⟨12, _⟩ => ⟨S4096x32x32, .f32⟩
  | .hbm, ⟨13, _⟩ => ⟨S4096x32x32, .f32⟩
  | .hbm, ⟨14, _⟩ => ⟨S_, .f32⟩
  | .hbm, ⟨15, _⟩ => ⟨S4096x32x32, .f32⟩
  | .hbm, ⟨16, _⟩ => ⟨S4096x32x32, .f32⟩
  | .hbm, ⟨17, _⟩ => ⟨S4096x32x256, .f32⟩
  | .hbm, ⟨18, _⟩ => ⟨S1x1x256, .f32⟩
  | .hbm, ⟨19, _⟩ => ⟨S4096x32x256, .f32⟩
  | .hbm, ⟨20, _⟩ => ⟨S4096x32x256, .f32⟩
  | .hbm, ⟨21, _⟩ => ⟨S_, .f32⟩
  | .hbm, ⟨22, _⟩ => ⟨S4096x32x256, .f32⟩
  | .hbm, ⟨23, _⟩ => ⟨S4096x32x256, .f32⟩
  | .hbm, ⟨24, _⟩ => ⟨S4096x32x256, .f32⟩
  | .hbm, ⟨25, _⟩ => ⟨S1x1x256, .f32⟩
  | .hbm, ⟨26, _⟩ => ⟨S4096x32x256, .f32⟩
  | .hbm, ⟨27, _⟩ => ⟨S4096x32x256, .f32⟩
  | .hbm, ⟨28, _⟩ => ⟨S32, .i32⟩
  | .hbm, ⟨29, _⟩ => ⟨S1x32, .i32⟩
  | .hbm, ⟨30, _⟩ => ⟨S4096x1, .i32⟩
  | .hbm, ⟨31, _⟩ => ⟨S4096x32, .i32⟩
  | .hbm, ⟨32, _⟩ => ⟨S4096x32, .i32⟩
  | .hbm, ⟨33, _⟩ => ⟨S4096x32, .i1⟩
  | .hbm, ⟨34, _⟩ => ⟨S4096x32x1, .i1⟩
  | .hbm, ⟨35, _⟩ => ⟨S_, .f32⟩
  | .hbm, ⟨36, _⟩ => ⟨S4096x32x256, .i1⟩
  | .hbm, ⟨37, _⟩ => ⟨S4096x32x256, .f32⟩
  | .hbm, ⟨38, _⟩ => ⟨S4096x32x256, .f32⟩
  | .hbm, ⟨39, _⟩ => ⟨S_, .f32⟩
  | .hbm, ⟨40, _⟩ => ⟨S4096x256, .f32⟩
  | .hbm, ⟨41, _⟩ => ⟨S_, .f32⟩
  | .hbm, ⟨42, _⟩ => ⟨S1x1x3, .f32⟩
  | .hbm, ⟨43, _⟩ => ⟨S1x1x32, .f32⟩
  | .hbm, ⟨44, _⟩ => ⟨S1x1x32, .f32⟩
  | .hbm, ⟨45, _⟩ => ⟨S1x1x32, .f32⟩
  | .hbm, ⟨46, _⟩ => ⟨S_, .f32⟩
  | .hbm, ⟨47, _⟩ => ⟨S1x1x32, .f32⟩
  | .hbm, ⟨48, _⟩ => ⟨S1x1x32, .f32⟩
  | .hbm, ⟨49, _⟩ => ⟨S1x1x256, .f32⟩
  | .hbm, ⟨50, _⟩ => ⟨S1x1x256, .f32⟩
  | .hbm, ⟨51, _⟩ => ⟨S1x1x256, .f32⟩
  | .hbm, ⟨52, _⟩ => ⟨S_, .f32⟩
  | .hbm, ⟨53, _⟩ => ⟨S1x1x256, .f32⟩
  | .hbm, ⟨54, _⟩ => ⟨S1x1x256, .f32⟩
  | .hbm, ⟨55, _⟩ => ⟨S1x1x256, .f32⟩
  | .hbm, ⟨56, _⟩ => ⟨S1x1x256, .f32⟩
  | .hbm, ⟨57, _⟩ => ⟨S1x1x256, .f32⟩
  | .hbm, ⟨58, _⟩ => ⟨S256, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S4096x1, .i1⟩
  | .hbm, ⟨63, _⟩ => ⟨S1x256, .f32⟩
  | .hbm, ⟨64, _⟩ => ⟨S4096x256, .i1⟩
  | .hbm, ⟨65, _⟩ => ⟨S4096x256, .f32⟩
  | .hbm, ⟨66, _⟩ => ⟨S4096x256, .f32⟩
  | .hbm, ⟨67, _⟩ => ⟨S4x32x32x256, .f32⟩
  | _, _ => ⟨S4x32x32x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_call2_v0 : Ref sig .tc := ⟨.hbm, 36, rfl⟩
abbrev main_call2_v1 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call3_cst : Ref sig .tc := ⟨.hbm, 46, rfl⟩
abbrev main_call3_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call4_cst : Ref sig .tc := ⟨.hbm, 52, rfl⟩
abbrev main_call4_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call5_v0 : Ref sig .tc := ⟨.hbm, 64, rfl⟩
abbrev main_call5_v1 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Spec.lean ====
/- The mathematics of one voxel, over the extended reals and away from any program: a three-layer
   perceptron of a point, the masked maximum over a voxel's points as the kernel writes it and as the
   reference writes it, and the proof that the two are equal. -/
module

public import Idealize.ShloMosaic.PureOps.Ideal

@[expose] public section

noncomputable section

namespace PointNet

open Idealize.ShloMosaic

/-- The first layer: an affine map of a point's three coordinates, cut below at zero. -/
def first (x : Fin 3 → EReal) (W1 : Fin 3 → Fin 32 → EReal) (b1 : Fin 32 → EReal) (j : Fin 32) : EReal :=
  max (∑ i, x i * W1 i j + b1 j) 0

/-- The second layer, an affine map cut below at zero, and the third layer's product without its bias. -/
def upper (h : Fin 32 → EReal) (W2 : Fin 32 → Fin 256 → EReal) (b2 : Fin 256 → EReal)
    (W3 : Fin 256 → Fin 256 → EReal) (d : Fin 256) : EReal :=
  ∑ k, max (∑ j, h j * W2 j k + b2 k) 0 * W3 k d

/-- A voxel's feature as the kernel computes it. The points past the count get `⊥` added, the maximum runs over
    all points, a voxel without points takes the perceptron of the first bias alone, and the last bias comes at
    the end. -/
def kernelRow (c : BitVec 32) (x : Fin 32 → Fin 3 → EReal) (W1 : Fin 3 → Fin 32 → EReal) (b1 : Fin 32 → EReal)
    (W2 : Fin 32 → Fin 256 → EReal) (b2 : Fin 256 → EReal) (W3 : Fin 256 → Fin 256 → EReal) (b3 : Fin 256 → EReal)
    (d : Fin 256) : EReal :=
  Scalar.select (IntOp.cmpi .sgt c 0#32)
      (Finset.univ.fold max ⊥ fun p : Fin 32 =>
        upper (first (x p) W1 b1) W2 b2 W3 d + Scalar.select (IntOp.cmpi .slt (BitVec.ofNat 32 p.val) c) 0 ⊥)
      (upper (fun j => max (b1 j) 0) W2 b2 W3 d)
    + b3 d

/-- A voxel's feature as the reference computes it. Each point goes through the whole perceptron, the points past
    the count are replaced by `⊥`, and a voxel without points takes the perceptron of the origin. -/
def referenceRow (c : BitVec 32) (x : Fin 32 → Fin 3 → EReal) (W1 : Fin 3 → Fin 32 → EReal) (b1 : Fin 32 → EReal)
    (W2 : Fin 32 → Fin 256 → EReal) (b2 : Fin 256 → EReal) (W3 : Fin 256 → Fin 256 → EReal) (b3 : Fin 256 → EReal)
    (d : Fin 256) : EReal :=
  Scalar.select (IntOp.cmpi .sgt c 0#32)
    (Finset.univ.fold max ⊥ fun p : Fin 32 =>
      Scalar.select (IntOp.cmpi .slt (BitVec.ofNat 32 p.val) c) (upper (first (x p) W1 b1) W2 b2 W3 d + b3 d) ⊥)
    (upper (first (fun _ => 0) W1 b1) W2 b2 W3 d + b3 d)

/-- Adding one number to every member of a family adds it to the family's maximum: addition is monotone, and `⊥`,
    the maximum of no member, absorbs it. -/
theorem fold_max_add {ι : Type} (s : Finset ι) (f : ι → EReal) (b : EReal) :
    s.fold max ⊥ f + b = s.fold max ⊥ fun p => f p + b := by
  classical
  induction s using Finset.induction_on with
  | empty => simp only [Finset.fold_empty, EReal.bot_add]
  | insert a s ha ih =>
    rw [Finset.fold_insert ha, Finset.fold_insert ha, ← ih]
    have hmono : Monotone fun y : EReal => y + b := fun _ _ h => add_le_add_left h b
    exact hmono.map_max

/-- Masking by adding `0` or `⊥` before the bias is masking by choosing the biased value or `⊥`. -/
theorem mask_add (k : BitVec 1) (h b : EReal) : h + Scalar.select k 0 ⊥ + b = Scalar.select k (h + b) ⊥ := by
  unfold Scalar.select
  split <;> simp

/-- A bias distributes into both arms of a choice. -/
theorem select_add (k : BitVec 1) (u v b : EReal) : Scalar.select k u v + b = Scalar.select k (u + b) (v + b) := by
  unfold Scalar.select
  split <;> rfl

/-- The first layer of the origin is the first bias cut below at zero. -/
theorem first_zero (W1 : Fin 3 → Fin 32 → EReal) (b1 : Fin 32 → EReal) (j : Fin 32) :
    first (fun _ => 0) W1 b1 j = max (b1 j) 0 := by
  simp [first]

/-- The kernel's form of a voxel's feature equals the reference's, at every count and all extended reals. -/
theorem kernelRow_eq (c : BitVec 32) (x : Fin 32 → Fin 3 → EReal) (W1 : Fin 3 → Fin 32 → EReal) (b1 : Fin 32 → EReal)
    (W2 : Fin 32 → Fin 256 → EReal) (b2 : Fin 256 → EReal) (W3 : Fin 256 → Fin 256 → EReal) (b3 : Fin 256 → EReal)
    (d : Fin 256) :
    kernelRow c x W1 b1 W2 b2 W3 b3 d = referenceRow c x W1 b1 W2 b2 W3 b3 d := by
  unfold kernelRow referenceRow
  rw [select_add, fold_max_add, show first (fun _ => 0) W1 b1 = fun j => max (b1 j) 0 from funext (first_zero W1 b1)]
  simp only [mask_add]

/-- A voxel's feature depends on its data only. -/
theorem referenceRow_congr {c c' : BitVec 32} {x x' : Fin 32 → Fin 3 → EReal} {W1 W1' : Fin 3 → Fin 32 → EReal}
    {b1 b1' : Fin 32 → EReal} {W2 W2' : Fin 32 → Fin 256 → EReal} {b2 b2' : Fin 256 → EReal}
    {W3 W3' : Fin 256 → Fin 256 → EReal} {b3 b3' : Fin 256 → EReal} (hc : c = c') (hx : x = x') (hW1 : W1 = W1')
    (hb1 : b1 = b1') (hW2 : W2 = W2') (hb2 : b2 = b2') (hW3 : W3 = W3') (hb3 : b3 = b3') (d : Fin 256) :
    referenceRow c x W1 b1 W2 b2 W3 b3 d = referenceRow c' x' W1' b1' W2' b2' W3' b3' d := by
  subst hc hx hW1 hb1 hW2 hb2 hW3 hb3
  rfl

end PointNet

end
-- ==== Proof.Body.lean ====
/- What one step of the kernel's grid stores, read at one voxel of its tile and one feature. -/
module

public import proofs.«01_k».proof.Proof.Spec
public import proofs.«01_k».proof.Proof.Gen.KernelIdeal.Skeleton
public import Idealize.ShloMosaic.Lib.Pointwise
public import Idealize.ShloMosaic.PureOps.IdealRules

@[expose] public section

set_option maxRecDepth 16384

noncomputable section

namespace Cert.KernelIdeal.Feature

open Idealize.ShloMosaic Idealize.ShloMosaic.TcCoe Idealize.SL.Sem
open Cert.KernelIdeal Cert.KernelIdeal.Gen

/-- The mask constant of the idealized kernel is `⊥`. -/
theorem mask_bot : Named.named (F := Ideal) κ "mask" (φ := .f32) 0xF149F2CA#32 = ⊥ := by
  simp [Named.named, κ]

/-- The f32 word of minus infinity is `⊥`. -/
theorem neg_inf : Ideal.ofBits .f32 0xFF800000#32 = ⊥ := by
  simp [Ideal.ofBits, Ideal.ieee]

/-- The stored tile at voxel `r` and feature `d` is `PointNet.kernelRow` of the tile's points, of voxel `r`'s count
    and of the weights: the points of voxel `r` are rows `32 r` to `32 r + 31` of the staged block. -/
theorem stored_at (pts : Vec Ideal S16384x3 .f32) (cnt : Vec Ideal S1x512x1 .i32) (w1 : Vec Ideal S3x32 .bf16)
    (b1 : Vec Ideal S1x32 .f32) (w2 : Vec Ideal S32x256 .bf16) (b2 : Vec Ideal S1x256 .f32) (w3 : Vec Ideal S256x256 .bf16)
    (b3 : Vec Ideal S1x256 .f32) (r : Fin 512) (d : Fin 256) :
    k0_pay1 (F := Ideal) (k0_pay2 b1) (k0_pay3 pts b1 w1 w2 b2 w3) (k0_pay4 cnt) (k0_pay5 cnt) w2 b2 w3 b3 (ix2 r d)
      = PointNet.kernelRow (cnt (ix3 0 r 0)) (fun p i => pts (ix2 ⟨r.val * 32 + p.val, by omega⟩ i))
          (fun i j => w1 (ix2 i j)) (fun j => b1 (ix2 0 j)) (fun j k => w2 (ix2 j k)) (fun k => b2 (ix2 0 k))
          (fun k e => w3 (ix2 k e)) (fun e => b3 (ix2 0 e)) d := by
  pointwise [k0_pay1, k0_pay2, k0_pay3, k0_pay4, k0_pay5]
  rw [mask_bot, neg_inf]
  rfl

end Cert.KernelIdeal.Feature

end
-- ==== Proof.Reference.lean ====
/- What the reference computes, read at one voxel and one feature. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Feature

open Idealize.ShloMosaic Idealize.ShloMosaic.TcCoe Idealize.SL.Sem
open Cert.ReferenceIdeal Cert.ReferenceIdeal.Gen

/-- The reference's array of features, one row per voxel, as the composed term of its operations over the
    arguments: the result before its last reshape. -/
def features (X : FVec Ideal S4x32x32x32x3 .f32) (C : IVec S4x32x32 32) (W1 : FVec Ideal S3x32 .f32) (b1 : FVec Ideal S32 .f32)
    (W2 : FVec Ideal S32x256 .f32) (b2 : FVec Ideal S256 .f32) (W3 : FVec Ideal S256x256 .f32) (b3 : FVec Ideal S256 .f32) :
    FVec Ideal S4096x256 .f32 :=
  select (broadcastInDim S4096x256 ![0, 1] bcast_S4096x1_S4096x256_0_1 (broadcastInDim S4096x1 ![0] bcast_S4096_S4096x1_0 (cmpi .sgt (shapeCast _ C shapeCasts_S4x32x32_S4096) (broadcastInDim S4096 ![] bcast_S_S4096 (constantI S_ 32 0#32))))) (Host.reduce FloatOps.maximumf (select (broadcastInDim S4096x32x256 ![0, 1, 2] bcast_S4096x32x1_S4096x32x256_0_1_2 (broadcastInDim S4096x32x1 ![0, 1] bcast_S4096x32_S4096x32x1_0_1 (cmpi .slt (broadcastInDim S4096x32 ![0, 1] bcast_S1x32_S4096x32_0_1 (broadcastInDim S1x32 ![1] bcast_S32_S1x32_1 (iotaInDim S32 32 0))) (broadcastInDim S4096x32 ![0, 1] bcast_S4096x1_S4096x32_0_1 (broadcastInDim S4096x1 ![0] bcast_S4096_S4096x1_0 (shapeCast _ C shapeCasts_S4x32x32_S4096)))))) (addf (Host.dotGeneral dot_S4096x32x256_S256x256_S4096x32x256_2_0_01_1_n_n none (maximumf (addf (Host.dotGeneral dot_S4096x32x32_S32x256_S4096x32x256_2_0_01_1_n_n none (maximumf (addf (Host.dotGeneral dot_S4096x32x3_S3x32_S4096x32x32_2_0_01_1_n_n none (shapeCast _ X shapeCasts_S4x32x32x32x3_S4096x32x3) W1) (broadcastInDim S4096x32x32 ![0, 1, 2] bcast_S1x1x32_S4096x32x32_0_1_2 (broadcastInDim S1x1x32 ![2] bcast_S32_S1x1x32_2 b1))) (broadcastInDim S4096x32x32 ![] bcast_S_S4096x32x32 (constant S_ .f32 0x00000000#32))) W2) (broadcastInDim S4096x32x256 ![0, 1, 2] bcast_S1x1x256_S4096x32x256_0_1_2 (broadcastInDim S1x1x256 ![2] bcast_S256_S1x1x256_2 b2))) (broadcastInDim S4096x32x256 ![] bcast_S_S4096x32x256 (constant S_ .f32 0x00000000#32))) W3) (broadcastInDim S4096x32x256 ![0, 1, 2] bcast_S1x1x256_S4096x32x256_0_1_2 (broadcastInDim S1x1x256 ![2] bcast_S256_S1x1x256_2 b3))) (broadcastInDim S4096x32x256 ![] bcast_S_S4096x32x256 (constant S_ .f32 0xFF800000#32))) (constant S_ .f32 0xFF800000#32) reducesTo_S4096x32x256_S4096x256_d1 h_S_) (broadcastInDim S4096x256 ![0, 1] bcast_S1x256_S4096x256_0_1 (broadcastInDim S1x256 ![1] bcast_S256_S1x256_1 (shapeCast _ (addf (Host.dotGeneral dot_S1x1x256_S256x256_S1x1x256_2_0_01_1_n_n none (maximumf (addf (Host.dotGeneral dot_S1x1x32_S32x256_S1x1x256_2_0_01_1_n_n none (maximumf (addf (Host.dotGeneral dot_S1x1x3_S3x32_S1x1x32_2_0_01_1_n_n none (broadcastInDim S1x1x3 ![] bcast_S_S1x1x3 (constant S_ .f32 0x00000000#32)) W1) (broadcastInDim S1x1x32 ![2] bcast_S32_S1x1x32_2 b1)) (broadcastInDim S1x1x32 ![] bcast_S_S1x1x32 (constant S_ .f32 0x00000000#32))) W2) (broadcastInDim S1x1x256 ![2] bcast_S256_S1x1x256_2 b2)) (broadcastInDim S1x1x256 ![] bcast_S_S1x1x256 (constant S_ .f32 0x00000000#32))) W3) (broadcastInDim S1x1x256 ![2] bcast_S256_S1x1x256_2 b3)) shapeCasts_S1x1x256_S256)))

/-- The f32 word of minus infinity is `⊥`. -/
theorem neg_inf : Ideal.ofBits .f32 0xFF800000#32 = ⊥ := by
  simp [Ideal.ofBits, Ideal.ieee]

/-- The batch that voxel `n` lies in, in row-major order. -/
def batch (n : Fin 4096) : Fin 4 := ⟨n.val / 1024, by omega⟩
/-- The row of the grid that voxel `n` lies in. -/
def row (n : Fin 4096) : Fin 32 := ⟨n.val / 32 % 32, by omega⟩
/-- The column of the grid that voxel `n` lies in. -/
def column (n : Fin 4096) : Fin 32 := ⟨n.val % 32, by omega⟩

/-- The reference's feature `d` of voxel `n`. -/
theorem features_at (X : FVec Ideal S4x32x32x32x3 .f32) (C : IVec S4x32x32 32) (W1 : FVec Ideal S3x32 .f32) (b1 : FVec Ideal S32 .f32)
    (W2 : FVec Ideal S32x256 .f32) (b2 : FVec Ideal S256 .f32) (W3 : FVec Ideal S256x256 .f32) (b3 : FVec Ideal S256 .f32)
    (n : Fin 4096) (d : Fin 256) :
    features X C W1 b1 W2 b2 W3 b3 (ix2 n d)
      = PointNet.referenceRow (C (ix3 (batch n) (row n) (column n)))
          (fun p i => X (ix5 (batch n) (row n) (column n) p i))
          (fun i j => W1 (ix2 i j)) (fun j => b1 (ix1 j)) (fun j k => W2 (ix2 j k)) (fun k => b2 (ix1 k))
          (fun k e => W3 (ix2 k e)) (fun e => b3 (ix1 e)) d := by
  pointwise [features]
  rw [neg_inf]
  rfl

end Cert.ReferenceIdeal.Feature

end
-- ==== Proof.Value.lean ====
/- The kernel's result array after the run is the reference's array of features over the same arguments. -/
module

public import proofs.«01_k».proof.Proof.Body
public import proofs.«01_k».proof.Proof.Reference
public import proofs.«01_k».proof.Proof.Gen.KernelIdeal.Frame
public import Idealize.ShloMosaic.Lib.Pipeline.ValueKit
public import Idealize.ShloMosaic.Lib.Claim

@[expose] public section

set_option maxRecDepth 16384

noncomputable section

namespace Cert.KernelIdeal.Feature

open Idealize.ShloMosaic Idealize.ShloMosaic.TcCoe Idealize.SL.Sem
open Idealize.ShloMosaic.Pipeline (Dat)
open Cert.KernelIdeal Cert.KernelIdeal.Gen
open Cert.ReferenceIdeal.Feature (batch row column)

variable (m : (ℓ : Loc nD τ sig) → Buf (Elt Ideal) ℓ)

/-- Which block each window stages at step `t`: tile `t` of the points, of the counts and of the result, and the
    whole of every weight. -/
theorem tile_index : ∀ t : Fin cfg0.N,
    win0_0.index t = ![t.val, 0] ∧ win0_1.index t = ![t.val, 0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![t.val, 0] :=
  (by decide +kernel : ∀ t : Fin grid0.N, _)

/-- There are eight steps. -/
theorem lt_steps (t : Fin cfg0.N) : t.val < 8 := lt_of_lt_of_eq t.isLt Gen.N_0

/-- Voxel `r` of tile `t`, counted over all tiles. -/
def voxel (t : Fin cfg0.N) (r : Fin 512) : Fin 4096 := ⟨t.val * 512 + r.val, by have := lt_steps t; omega⟩

/-! ## The arrays that the windows stage, as the host lines before the kernel leave them -/

/-- The points, one per row. -/
theorem points_array (c : Dev nD) :
    V m c main_v0 = shapeCast S131072x3 (m ((c : Thread nD τ).loc main_arg0)) shapeCasts_S4x32x32x32x3_S131072x3 := by
  simp only [V, V0, hostOps0, List.flatten_cons, List.flatten_nil, List.append_nil]
  after_results_simp <;> rfl

/-- The counts, one tile per leading index. -/
theorem counts_array (c : Dev nD) :
    V m c main_v1 = shapeCast S8x512x1 (m ((c : Thread nD τ).loc main_arg1)) shapeCasts_S4x32x32_S8x512x1 := by
  simp only [V, V0, hostOps0, List.flatten_cons, List.flatten_nil, List.append_nil]
  after_results_simp <;> rfl

/-- The first weights: over the extended reals the change of format is the identity. -/
theorem w1_array (c : Dev nD) : V m c main_v2 = m ((c : Thread nD τ).loc main_arg2) := by
  simp only [V, V0, hostOps0, List.flatten_cons, List.flatten_nil, List.append_nil]
  after_results_simp <;> rfl

/-- The first bias, as a matrix of one row. -/
theorem b1_array (c : Dev nD) : V m c main_v3 = shapeCast S1x32 (m ((c : Thread nD τ).loc main_arg3)) shapeCasts_S32_S1x32 := by
  simp only [V, V0, hostOps0, List.flatten_cons, List.flatten_nil, List.append_nil]
  after_results_simp <;> rfl

/-- The second weights. -/
theorem w2_array (c : Dev nD) : V m c main_v4 = m ((c : Thread nD τ).loc main_arg4) := by
  simp only [V, V0, hostOps0, List.flatten_cons, List.flatten_nil, List.append_nil]
  after_results_simp <;> rfl

/-- The second bias, as a matrix of one row. -/
theorem b2_array (c : Dev nD) : V m c main_v5 = shapeCast S1x256 (m ((c : Thread nD τ).loc main_arg5)) shapeCasts_S256_S1x256 := by
  simp only [V, V0, hostOps0, List.flatten_cons, List.flatten_nil, List.append_nil]
  after_results_simp <;> rfl

/-- The third weights. -/
theorem w3_array (c : Dev nD) : V m c main_v6 = m ((c : Thread nD τ).loc main_arg6) := by
  simp only [V, V0, hostOps0, List.flatten_cons, List.flatten_nil, List.append_nil]
  after_results_simp <;> rfl

/-- The third bias, as a matrix of one row. -/
theorem b3_array (c : Dev nD) : V m c main_v7 = shapeCast S1x256 (m ((c : Thread nD τ).loc main_arg7)) shapeCasts_S256_S1x256 := by
  simp only [V, V0, hostOps0, List.flatten_cons, List.flatten_nil, List.append_nil]
  after_results_simp <;> rfl

/-! ## The blocks, read off those arrays -/

/-- Row `q` of the points staged at step `t` is row `16384 t + q` of the points. -/
theorem points_block (c : Dev nD) (t : Fin cfg0.N) (q : Fin 16384) (i : Fin 3) (h : t.val * 16384 + q.val < 131072) :
    (iblk m c 0 t : Vec Ideal S16384x3 .f32) (ix2 q i)
      = (V m c main_v0 : FVec Ideal S131072x3 .f32) (ix2 ⟨t.val * 16384 + q.val, h⟩ i) := by
  blk_ext [iblk, tile_index t]

/-- The counts staged at step `t` are tile `t` of the counts. -/
theorem counts_block (c : Dev nD) (t : Fin cfg0.N) (r : Fin 512) (h : t.val < 8) :
    (iblk m c 1 t : Vec Ideal S1x512x1 .i32) (ix3 0 r 0) = (V m c main_v1 : IVec S8x512x1 32) (ix3 ⟨t.val, h⟩ r 0) := by
  blk_ext [iblk, tile_index t]

/-- The first weights are staged whole. -/
theorem w1_block (c : Dev nD) (t : Fin cfg0.N) (i : Fin 3) (j : Fin 32) :
    (iblk m c 2 t : Vec Ideal S3x32 .bf16) (ix2 i j) = (V m c main_v2 : FVec Ideal S3x32 .bf16) (ix2 i j) := by
  blk_ext [iblk, tile_index t]

/-- The first bias is staged whole. -/
theorem b1_block (c : Dev nD) (t : Fin cfg0.N) (j : Fin 32) :
    (iblk m c 3 t : Vec Ideal S1x32 .f32) (ix2 0 j) = (V m c main_v3 : FVec Ideal S1x32 .f32) (ix2 0 j) := by
  blk_ext [iblk, tile_index t]

/-- The second weights are staged whole. -/
theorem w2_block (c : Dev nD) (t : Fin cfg0.N) (j : Fin 32) (k : Fin 256) :
    (iblk m c 4 t : Vec Ideal S32x256 .bf16) (ix2 j k) = (V m c main_v4 : FVec Ideal S32x256 .bf16) (ix2 j k) := by
  blk_ext [iblk, tile_index t]

/-- The second bias is staged whole. -/
theorem b2_block (c : Dev nD) (t : Fin cfg0.N) (k : Fin 256) :
    (iblk m c 5 t : Vec Ideal S1x256 .f32) (ix2 0 k) = (V m c main_v5 : FVec Ideal S1x256 .f32) (ix2 0 k) := by
  blk_ext [iblk, tile_index t]

/-- The third weights are staged whole. -/
theorem w3_block (c : Dev nD) (t : Fin cfg0.N) (k e : Fin 256) :
    (iblk m c 6 t : Vec Ideal S256x256 .bf16) (ix2 k e) = (V m c main_v6 : FVec Ideal S256x256 .bf16) (ix2 k e) := by
  blk_ext [iblk, tile_index t]

/-- The third bias is staged whole. -/
theorem b3_block (c : Dev nD) (t : Fin cfg0.N) (k : Fin 256) :
    (iblk m c 7 t : Vec Ideal S1x256 .f32) (ix2 0 k) = (V m c main_v7 : FVec Ideal S1x256 .f32) (ix2 0 k) := by
  blk_ext [iblk, tile_index t]

/-! ## The reshapes of the host, read at an index -/

/-- Row `32 n + p` of the points is point `p` of voxel `n`. -/
theorem points_row (X : FVec Ideal S4x32x32x32x3 .f32) (n : Fin 4096) (p : Fin 32) (i : Fin 3) (q : Fin 131072)
    (h : q.val = n.val * 32 + p.val) :
    shapeCast S131072x3 X shapeCasts_S4x32x32x32x3_S131072x3 (ix2 q i) = X (ix5 (batch n) (row n) (column n) p i) := by
  pointwise
  refine congrArg X ?_
  simp only [batch, row, column]
  idx_ext

/-- Count `r` of tile `t` is the count of voxel `512 t + r`. -/
theorem counts_row (C : IVec S4x32x32 32) (n : Fin 4096) (t : Fin 8) (r : Fin 512) (h : n.val = t.val * 512 + r.val) :
    shapeCast S8x512x1 C shapeCasts_S4x32x32_S8x512x1 (ix3 t r 0) = C (ix3 (batch n) (row n) (column n)) := by
  pointwise
  refine congrArg C ?_
  simp only [batch, row, column]
  idx_ext

/-- A vector of 32 entries as a matrix of one row. -/
theorem row32 (b : FVec Ideal S32 .f32) (j : Fin 32) : shapeCast S1x32 b shapeCasts_S32_S1x32 (ix2 0 j) = b (ix1 j) := by
  pointwise

/-- A vector of 256 entries as a matrix of one row. -/
theorem row256 (b : FVec Ideal S256 .f32) (k : Fin 256) : shapeCast S1x256 b shapeCasts_S256_S1x256 (ix2 0 k) = b (ix1 k) := by
  pointwise

/-! ## The blocks, read off the arguments -/

/-- The staged points of voxel `r` of tile `t` are the argument's points of voxel `512 t + r`. -/
theorem points_at (c : Dev nD) (t : Fin cfg0.N) (r : Fin 512) (p : Fin 32) (i : Fin 3) :
    (iblk m c 0 t : Vec Ideal S16384x3 .f32) (ix2 ⟨r.val * 32 + p.val, by omega⟩ i)
      = (m ((c : Thread nD τ).loc main_arg0) : FVec Ideal S4x32x32x32x3 .f32)
          (ix5 (batch (voxel t r)) (row (voxel t r)) (column (voxel t r)) p i) := by
  have ht := lt_steps t
  refine (points_block m c t _ i (by dsimp only; omega)).trans ((congrFun (points_array m c) _).trans ?_)
  exact points_row _ (voxel t r) p i _ (by dsimp only [voxel]; omega)

/-- The staged count of voxel `r` of tile `t` is the argument's count of voxel `512 t + r`. -/
theorem counts_at (c : Dev nD) (t : Fin cfg0.N) (r : Fin 512) :
    (iblk m c 1 t : Vec Ideal S1x512x1 .i32) (ix3 0 r 0)
      = (m ((c : Thread nD τ).loc main_arg1) : IVec S4x32x32 32) (ix3 (batch (voxel t r)) (row (voxel t r)) (column (voxel t r))) :=
  (counts_block m c t r (lt_steps t)).trans ((congrFun (counts_array m c) _).trans (counts_row _ (voxel t r) _ r rfl))

/-! ## The result array -/

/-- The reference's array of features over the kernel's arguments. -/
def target (c : Dev nD) : FVec Ideal S4096x256 .f32 :=
  Cert.ReferenceIdeal.Feature.features (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Step `t` stores the reference's features of tile `t`. -/
theorem stored_target (c : Dev nD) (t : Fin cfg0.N) (r : Fin 512) (d : Fin 256) :
    k0_pay1 (F := Ideal) (k0_pay2 (iblk m c 3 t)) (k0_pay3 (iblk m c 0 t) (iblk m c 3 t) (iblk m c 2 t) (iblk m c 4 t) (iblk m c 5 t) (iblk m c 6 t))
        (k0_pay4 (iblk m c 1 t)) (k0_pay5 (iblk m c 1 t)) (iblk m c 4 t) (iblk m c 5 t) (iblk m c 6 t) (iblk m c 7 t) (ix2 r d)
      = target m c (ix2 (voxel t r) d) := by
  refine (stored_at (iblk m c 0 t) (iblk m c 1 t) (iblk m c 2 t) (iblk m c 3 t) (iblk m c 4 t) (iblk m c 5 t) (iblk m c 6 t) (iblk m c 7 t) r d).trans ?_
  refine Eq.trans ?_ (Cert.ReferenceIdeal.Feature.features_at _ _ _ _ _ _ _ _ (voxel t r) d).symm
  rw [PointNet.kernelRow_eq]
  have hx := funext fun p => funext fun i => points_at m c t r p i
  have hw1 := funext fun i => funext fun j => (w1_block m c t i j).trans (congrFun (w1_array m c) _)
  have hb1 := funext fun j => (b1_block m c t j).trans ((congrFun (b1_array m c) _).trans (row32 _ j))
  have hw2 := funext fun j => funext fun k => (w2_block m c t j k).trans (congrFun (w2_array m c) _)
  have hb2 := funext fun k => (b2_block m c t k).trans ((congrFun (b2_array m c) _).trans (row256 _ k))
  have hw3 := funext fun k => funext fun e => (w3_block m c t k e).trans (congrFun (w3_array m c) _)
  have hb3 := funext fun e => (b3_block m c t e).trans ((congrFun (b3_array m c) _).trans (row256 _ e))
  exact PointNet.referenceRow_congr (counts_at m c t r) hx hw1 hb1 hw2 hb2 hw3 hb3 d

/-- The kernel's result array after all steps is the reference's array of features. -/
theorem result_array (c : Dev nD) : (dats m 0 c).arrAt 8 (cfgs 0).N = target m c := by
  refine (dats m 0 c).arrAt_eq_of_covers 8 _ (by decide +kernel) fun t _ y => ?_
  blk_simp
  rw [after0_8]
  frame_out
  idx_vars y
  refine (stored_target m c t _ _).trans (congrArg (target m c) ?_)
  blk_ext [tile_index t, voxel]

/-! ## The run -/

/-- The host's last line reshapes the result array into the kernel's result. -/
theorem result (c : Dev nD) :
    Pipeline.afterTail₀ cfgs (dats m) 0 (V0 m) [hostOps1] c main_v9
      = shapeCast S4x32x32x256 (target m c) shapeCasts_S4096x256_S4x32x32x256 := by
  have harr : Pipeline.withArrays (cfgs 0).spec c (V0 m c) (fun w => (dats m 0 c).arrAt w (cfgs 0).N) (Proc.devRef .tc main_v8)
      = target m c :=
    (Pipeline.withArrays_arr (cfgs 0).spec launch0.win.arr_inj c (V0 m c) (fun w => (dats m 0 c).arrAt w (cfgs 0).N) 8).trans (result_array m c)
  unfold Pipeline.afterTail₀
  simp only [hostOps1, List.flatten_cons, List.flatten_nil, List.append_nil]
  after_results_simp
  rw [harr]
  rfl

/-- Every run of the kernel from memory `m` ends with the result at the reference's array of features, reshaped, and the
    arguments unchanged. -/
theorem run (g : Dev nD → PrngReg) :
    θ_run defs (onTc (τ := τ) (main (F := Ideal))) ⟨m, fun _ => 0, g⟩ fun r => ∀ c : Dev nD,
      r.2.mem ((c : Thread nD τ).loc main_v9) = shapeCast S4x32x32x256 (target m c) shapeCasts_S4096x256_S4x32x32x256
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono
    (fun _ h c => ⟨((h.1 c).2 main_v9 (Pipeline.mem_restRefs_of main_v9 (by decide) (by decide))).trans (result m c), h.2 c⟩)
    (θ_run_and (run_main m g) (unchanged m g))

end Cert.KernelIdeal.Feature

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel and the reference, from memories that agree on the arguments, end with equal results. -/
theorem results_equal :
    Cert.algebraic_KernelIdeal_ReferenceIdeal (hKernelIdeal := Cert.KernelIdeal.Gen.facts)
      (hReferenceIdeal := Cert.ReferenceIdeal.Gen.facts) := by
  pair_intro
  · run_from Cert.KernelIdeal.Feature.run m g
  · run_from Cert.ReferenceIdeal.Value.run m' g'
    rfl

/-- The reference terminates with its arguments and the counters unchanged. -/
theorem reference_quiescent : Cert.quiescent_ReferenceIdeal (hReferenceIdeal := Cert.ReferenceIdeal.Gen.facts) := by
  intro m g _
  exact (θ_run Cert.ReferenceIdeal.defs _ _).mono
    (fun r h => ⟨fun c => (h c).2, sem_eq_zero_of_no_sems (by decide) r.2⟩) (Cert.ReferenceIdeal.Value.run m g)

/-- All that is claimed: the three programs run and leave their arguments unchanged, the idealized kernel is the kernel
    but for its named constant, and its result equals the reference's. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_quiescent,
    IdealRules.named_const.statement _ _ _ _ _ rfl, results_equal⟩

end Cert.Proof

end
